-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_alpha" .f32 0x3E4CCCCD#32 ((5⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S1024x64 : Shape := ⟨2, ![1024, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x2048x64 .f32) (main_arg1 : FVec F S1024x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x2048x64 : Shape := ⟨3, ![16, 2048, 64]⟩
abbrev S1024x64 : Shape := ⟨2, ![1024, 64]⟩
abbrev S32768x64 : Shape := ⟨2, ![32768, 64]⟩
abbrev S16x64x2048 : Shape := ⟨3, ![16, 64, 2048]⟩
abbrev S_ : Shape := ⟨0, ![]⟩
abbrev S32768 : Shape := ⟨1, ![32768]⟩
abbrev S32768x1 : Shape := ⟨2, ![32768, 1]⟩
abbrev S16x1x2048 : Shape := ⟨3, ![16, 1, 2048]⟩
abbrev S1024 : Shape := ⟨1, ![1024]⟩
abbrev S1x1024 : Shape := ⟨2, ![1, 1024]⟩
abbrev S64x32768 : Shape := ⟨2, ![64, 32768]⟩
abbrev S32768x1024 : Shape := ⟨2, ![32768, 1024]⟩
abbrev S1x64x2048 : Shape := ⟨3, ![1, 64, 2048]⟩
abbrev S1x1x2048 : Shape := ⟨3, ![1, 1, 2048]⟩
abbrev S64x2048 : Shape := ⟨2, ![64, 2048]⟩
abbrev S2048x1024 : Shape := ⟨2, ![2048, 1024]⟩
abbrev S2048 : Shape := ⟨1, ![2048]⟩
abbrev S2048x64 : Shape := ⟨2, ![2048, 64]⟩
abbrev S1x2048 : Shape := ⟨2, ![1, 2048]⟩
abbrev S2048x1 : Shape := ⟨2, ![2048, 1]⟩

abbrev nBuf : Space → Nat
  | .hbm => 20
  | .vmem => 15
  | .smem => 0
  | _ => 0

abbrev bufTy : (tb : Table) → Fin (tcTables nBuf tb) → BufTy
  | .hbm, ⟨0, _⟩ => ⟨S16x2048x64, .f32⟩
  | .hbm, ⟨1, _⟩ => ⟨S1024x64, .f32⟩
  | .hbm, ⟨2, _⟩ => ⟨S32768x64, .f32⟩
  | .hbm, ⟨3, _⟩ => ⟨S16x64x2048, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S16x1x2048, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S64x32768, .f32⟩
  | .hbm, ⟨16, _⟩ => ⟨S32768x1024, .f32⟩
  | .hbm, ⟨17, _⟩ => ⟨S32768x1024, .f32⟩
  | .hbm, ⟨18, _⟩ => ⟨S32768, .i32⟩
  | .hbm, ⟨19, _⟩ => ⟨S32768x64, .f32⟩
  | .local _ .vmem, ⟨0, _⟩ => ⟨S1x64x2048, .f32⟩
  | .local _ .vmem, ⟨1, _⟩ => ⟨S1x64x2048, .f32⟩
  | .local _ .vmem, ⟨2, _⟩ => ⟨S1024x64, .f32⟩
  | .local _ .vmem, ⟨3, _⟩ => ⟨S1x1x2048, .f32⟩
  | .local _ .vmem, ⟨4, _⟩ => ⟨S1x1x2048, .f32⟩
  | .local _ .vmem, ⟨5, _⟩ => ⟨S1x1024, .f32⟩
  | .local _ .vmem, ⟨6, _⟩ => ⟨S1x1024, .f32⟩
  | .local _ .vmem, ⟨7, _⟩ => ⟨S64x2048, .f32⟩
  | .local _ .vmem, ⟨8, _⟩ => ⟨S64x2048, .f32⟩
  | .local _ .vmem, ⟨9, _⟩ => ⟨S2048x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S2048, .i32⟩
  | .local _ .vmem, ⟨14, _⟩ => ⟨S2048, .i32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_alpha" => some ((5⁻¹ : ℝ) : EReal)
  | _ => none
-- ==== ReferenceIdeal.lean ====
abbrev S16x2048x64 : Shape := ⟨3, ![16, 2048, 64]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S64x1024 : Shape := ⟨2, ![64, 1024]⟩
abbrev S32768x1024 : Shape := ⟨2, ![32768, 1024]⟩
abbrev S1 : Shape := ⟨1, ![1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S1024x64, .f32⟩
  | .hbm, ⟨2, _⟩ => ⟨S32768x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S64x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .i32⟩
  | .hbm, ⟨24, _⟩ => ⟨S_, .f32⟩
  | .hbm, ⟨25, _⟩ => ⟨S_, .i32⟩
  | .hbm, ⟨26, _⟩ => ⟨S32768, .f32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S1, .i32⟩
  | .hbm, ⟨37, _⟩ => ⟨S_, .i32⟩
  | .hbm, ⟨38, _⟩ => ⟨S32768x1, .i32⟩
  | .hbm, ⟨39, _⟩ => ⟨S32768x1, .i1⟩
  | .hbm, ⟨40, _⟩ => ⟨S1x1, .i32⟩
  | .hbm, ⟨41, _⟩ => ⟨S32768x1, .i32⟩
  | .hbm, ⟨42, _⟩ => ⟨S32768x1, .i1⟩
  | .hbm, ⟨43, _⟩ => ⟨S32768x1, .i1⟩
  | .hbm, ⟨44, _⟩ => ⟨S_, .i1⟩
  | .hbm, ⟨45, _⟩ => ⟨S32768, .i1⟩
  | .hbm, ⟨46, _⟩ => ⟨S32768x64, .f32⟩
  | .hbm, ⟨47, _⟩ => ⟨S32768x64, .i1⟩
  | .hbm, ⟨48, _⟩ => ⟨S_, .f32⟩
  | .hbm, ⟨49, _⟩ => ⟨S32768x64, .f32⟩
  | .hbm, ⟨50, _⟩ => ⟨S32768x64, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S32768x64, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S1024x64, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S64x1024, .f32⟩
  | .hbm, ⟨74, _⟩ => ⟨S32768x1024, .f32⟩
  | .hbm, ⟨75, _⟩ => ⟨S_, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768x1024, .f32⟩
  | .hbm, ⟨84, _⟩ => ⟨S32768x1024, .f32⟩
  | .hbm, ⟨85, _⟩ => ⟨S_, .f32⟩
  | .hbm, ⟨86, _⟩ => ⟨S32768x1024, .f32⟩
  | .hbm, ⟨87, _⟩ => ⟨S32768x1024, .f32⟩
  | .hbm, ⟨88, _⟩ => ⟨S_, .f32⟩
  | .hbm, ⟨89, _⟩ => ⟨S32768x1024, .f32⟩
  | .hbm, ⟨90, _⟩ => ⟨S32768x1024, .f32⟩
  | .hbm, ⟨91, _⟩ => ⟨S_, .f32⟩
  | .hbm, ⟨92, _⟩ => ⟨S32768x1024, .f32⟩
  | .hbm, ⟨93, _⟩ => ⟨S32768x1024, .f32⟩
  | .hbm, ⟨94, _⟩ => ⟨S_, .f32⟩
  | .hbm, ⟨95, _⟩ => ⟨S32768, .f32⟩
  | .hbm, ⟨96, _⟩ => ⟨S32768x1, .f32⟩
  | .hbm, ⟨97, _⟩ => ⟨S32768x1024, .f32⟩
  | .hbm, ⟨98, _⟩ => ⟨S32768x1024, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_10 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_cst_13 : Ref sig .tc := ⟨.hbm, 91, rfl⟩
abbrev main_v49 : Ref sig .tc := ⟨.hbm, 92, rfl⟩
abbrev main_v50 : Ref sig .tc := ⟨.hbm, 93, rfl⟩
abbrev main_cst_14 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩

abbrev nD : Nat := 1
abbrev τ : Topo := Topo.v7x

variable {F : FTy → Type} [FloatOps F]
-- ==== Proof.Frames.lean ====
/-
  The frame claims: every program runs, leaves its arguments as launched and every counter at zero. The kernel's rounded
  constant 0.2 stands for the fifth.
-/
module

public import proofs.«01_k».proof.Defs
public import proofs.«01_k».proof.Proof.Gen.Kernel.Frame
public import proofs.«01_k».proof.Proof.Gen.KernelIdeal.Frame
public import proofs.«01_k».proof.Proof.Gen.ReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Frames

/-- The kernel runs on machine floats. -/
theorem kernel : Cert.quiescent_Kernel := fun m ρ _ => Cert.Kernel.Gen.frame m ρ

/-- The kernel runs on the extended reals. -/
theorem kernel_ideal : Cert.quiescent_KernelIdeal := fun m ρ _ => Cert.KernelIdeal.Gen.frame m ρ

/-- The same under the precondition. -/
theorem kernel_ideal_pre [Cert.Pre_finite_inputs.Facts] : Cert.quiescent_KernelIdeal_pre_finite_inputs :=
  fun m ρ _ => Cert.KernelIdeal.Gen.frame m ρ

/-- The reference runs on the extended reals. -/
theorem reference : Cert.quiescent_ReferenceIdeal := by
  intro m g _
  refine (θ_run _ _ _).mono (fun r h => ⟨h, sem_eq_zero_of_no_sems (by decide) r.2⟩) ?_
  hlo_run

/-- The same under the precondition. -/
theorem reference_pre [Cert.Pre_finite_inputs.Facts] : Cert.quiescent_ReferenceIdeal_pre_finite_inputs :=
  fun m g _ => reference m g trivial

/-- The rounded constant 0.2 of the kernel is named; the name stands for the fifth. -/
theorem preserves : Cert.preserves_Kernel_KernelIdeal :=
  IdealRules.named_const.statement Cert.KernelIdeal.κ "inv_alpha" .f32 0x3E4CCCCD#32 ((5⁻¹ : ℝ) : EReal) rfl

end Cert.Frames

end
-- ==== Proof.Row.lean ====
/-
  One row of the quantisation, as mathematics on the extended reals: the float constants the two programs use, the first
  nearest code of a row of distances, and the two ways of writing the normalised soft assignment.
-/
module

public import Idealize.ShloMosaic.PureOps.Ideal
public import Idealize.ShloMosaic.Lib.StableHlo.Predicate
public import Mathlib.Data.Prod.Lex
public import Mathlib.Data.Finset.Fold

@[expose] public section

noncomputable section

open Idealize.ShloMosaic

namespace Cert.Row

/-! ## The constants -/

/-- The pattern of `2.0` denotes 2. -/
theorem ofBits_two : Ideal.ofBits .f32 0x40000000#32 = ((2 : ℝ) : EReal) := by
  simp [Ideal.ofBits, Ideal.ieee, -EReal.coe_mul]; norm_num
/-- The pattern of `-2.0` denotes −2. -/
theorem ofBits_neg_two : Ideal.ofBits .f32 0xC0000000#32 = ((-2 : ℝ) : EReal) := by
  simp [Ideal.ofBits, Ideal.ieee, -EReal.coe_mul]; norm_num
/-- The pattern of `5.0` denotes 5. -/
theorem ofBits_five : Ideal.ofBits .f32 0x40A00000#32 = ((5 : ℝ) : EReal) := by
  simp [Ideal.ofBits, Ideal.ieee, -EReal.coe_mul]; norm_num
/-- The pattern of `-3.0` denotes −3. -/
theorem ofBits_neg_three : Ideal.ofBits .f32 0xC0400000#32 = ((-3 : ℝ) : EReal) := by
  simp [Ideal.ofBits, Ideal.ieee, -EReal.coe_mul]; norm_num
/-- The pattern of `2048.0` denotes 2048. -/
theorem ofBits_2048 : Ideal.ofBits .f32 0x45000000#32 = ((2048 : ℝ) : EReal) := by
  simp [Ideal.ofBits, Ideal.ieee, -EReal.coe_mul]; norm_num
/-- The pattern of the positive infinity denotes `⊤`. -/
theorem ofBits_inf : Ideal.ofBits .f32 0x7F800000#32 = (⊤ : EReal) := by
  simp [Ideal.ofBits, Ideal.ieee]

/-! ## The first nearest code of a row -/

variable (d : Fin 1024 → EReal)

/-- Some code is the first among the nearest: nearer than every code before it and as near as any. -/
theorem exists_first : ∃ k : Fin 1024, ∀ j, d k < d j ∨ d k = d j ∧ k ≤ j := by
  obtain ⟨k, -, hk⟩ := Finset.exists_min_image Finset.univ (fun k : Fin 1024 => toLex (d k, k)) ⟨0, Finset.mem_univ _⟩
  exact ⟨k, fun j => Prod.Lex.le_iff.1 (hk j (Finset.mem_univ _))⟩

/-- The first nearest code. -/
def first : Fin 1024 := (exists_first d).choose
theorem first_spec (j : Fin 1024) : d (first d) < d j ∨ d (first d) = d j ∧ first d ≤ j := (exists_first d).choose_spec j
theorem first_le (j : Fin 1024) : d (first d) ≤ d j := by
  rcases first_spec d j with h | h
  · exact h.le
  · exact h.1.le

/-- The least distance of a row, as a fold of minima from `⊤`, is the distance of the first nearest code. -/
theorem fold_min : Finset.univ.fold min ⊤ d = d (first d) := by
  refine le_antisymm ((Finset.fold_min_le _).2 (Or.inr ⟨_, Finset.mem_univ _, le_rfl⟩)) ?_
  exact (Finset.le_fold_min _).2 ⟨le_top, fun j _ => first_le d j⟩

/-- The least code number among the codes at the least distance (2048 standing for the others) is the first nearest
    code's number. -/
theorem fold_index :
    (Finset.univ.fold min ⊤ fun k : Fin 1024 => if d k = d (first d) then (((k.val : ℝ)) : EReal) else ((2048 : ℝ) : EReal))
      = (((first d).val : ℝ) : EReal) := by
  refine le_antisymm ((Finset.fold_min_le _).2 (Or.inr ⟨first d, Finset.mem_univ _, by rw [if_pos rfl]⟩)) ?_
  refine (Finset.le_fold_min _).2 ⟨le_top, fun j _ => ?_⟩
  split_ifs with h
  · rcases first_spec d j with h' | h'
    · exact absurd h h'.ne'
    · exact EReal.coe_le_coe_iff.2 (Nat.cast_le.2 h'.2)
  · refine EReal.coe_le_coe_iff.2 ?_
    have := (first d).isLt
    exact_mod_cast (by omega : (first d).val ≤ 2048)

/-- A code number written as a real converts back to that number. -/
theorem fptosi_code (k : Fin 1024) : Ideal.fptosi 32 ((k.val : ℝ) : EReal) = BitVec.ofNat 32 k.val := by
  have hk := k.isLt
  rw [Ideal.fptosi, Ideal.toIntClamped_coe, if_pos (Nat.cast_nonneg _), Int.floor_natCast]
  rw [min_eq_right (by norm_num; omega), max_eq_right (by norm_num)]
  exact BitVec.ofInt_natCast _ _

/-- A small natural number's 32-bit word reads back as the number. -/
theorem toInt_code (k : Fin 1024) : (BitVec.ofNat 32 k.val).toInt = (k.val : ℤ) :=
  StableHlo.Predicate.toInt_ofNat_small k.val (by have := k.isLt; omega)

/-- Which code a row picks, as a 0/1 weight, sums a column of the codebook to the picked code's entry. -/
theorem sum_pick (k : Fin 1024) (x : Fin 1024 → EReal) :
    ∑ l : Fin 1024, (((BitVec.setWidth 32 (BitVec.ofBool (decide ((((l.val : ℝ)) : EReal) = ((k.val : ℝ) : EReal))))).toInt : ℝ)
        : EReal) * x l = x k := by
  rw [Finset.sum_eq_single k]
  · simp
  · intro l _ hl
    have : ¬ (((l.val : ℝ)) : EReal) = ((k.val : ℝ) : EReal) := fun h =>
      hl (Fin.ext (by exact_mod_cast EReal.coe_eq_coe_iff.1 h))
    rw [decide_eq_false this]; simp
  · intro h; exact absurd (Finset.mem_univ _) h

/-! ## The soft assignment -/

/-- The reciprocal of a positive real. -/
theorem one_div_coe {x : ℝ} (hx : 0 < x) : Ideal.div 1 (x : EReal) = ((x⁻¹ : ℝ) : EReal) := by
  rw [Ideal.div_coe hx.ne', one_mul, one_div]

/-- A finite sum of reals, as an extended real. -/
theorem coe_sum {n : Nat} (f : Fin n → ℝ) : ∑ l, ((f l : ℝ) : EReal) = ((∑ l, f l : ℝ) : EReal) := by
  classical
  induction (Finset.univ : Finset (Fin n)) using Finset.induction_on with
  | empty => simp
  | insert a s ha ih => rw [Finset.sum_insert ha, Finset.sum_insert ha, ih, EReal.coe_add]

/-- The weight as a cube of a reciprocal: `(1 / (1 + d·5⁻¹))³`. -/
def cube (x : EReal) : EReal :=
  Ideal.div 1 (1 + x * ((5⁻¹ : ℝ) : EReal)) * Ideal.div 1 (1 + x * ((5⁻¹ : ℝ) : EReal))
    * Ideal.div 1 (1 + x * ((5⁻¹ : ℝ) : EReal))

/-- The weight as a power: `(1 + d / 5) ^ (−3)`. -/
def power (x : EReal) : EReal := Ideal.pow (1 + Ideal.div x ((5 : ℝ) : EReal)) ((-3 : ℝ) : EReal)

/-- The real both weights are at a finite distance that is not negative. -/
theorem cube_coe {x : ℝ} (hx : 0 ≤ x) : cube (x : EReal) = (((1 + x * 5⁻¹) ^ 3)⁻¹ : ℝ) := by
  have h : (1 : EReal) + (x : EReal) * ((5⁻¹ : ℝ) : EReal) = ((1 + x * 5⁻¹ : ℝ) : EReal) := by
    rw [EReal.coe_add, EReal.coe_mul, EReal.coe_one]
  rw [cube, h, one_div_coe (by positivity), ← EReal.coe_mul, ← EReal.coe_mul]
  congr 1
  rw [pow_three, mul_inv, mul_inv, mul_assoc]

theorem power_coe {x : ℝ} (hx : 0 ≤ x) : power (x : EReal) = (((1 + x * 5⁻¹) ^ 3)⁻¹ : ℝ) := by
  have h : (1 : EReal) + Ideal.div (x : EReal) ((5 : ℝ) : EReal) = ((1 + x * 5⁻¹ : ℝ) : EReal) := by
    rw [Ideal.div_coe (by norm_num), one_div, EReal.coe_add, EReal.coe_mul, EReal.coe_one]
  rw [power, h, Ideal.pow_coe_coe]
  congr 1
  show (1 + x * 5⁻¹ : ℝ) ^ (-3 : ℝ) = _
  rw [Real.rpow_neg (by positivity)]
  congr 1
  exact_mod_cast Real.rpow_natCast (1 + x * 5⁻¹) 3

/-- On a row of finite distances that are not negative, the weight times the reciprocal of the row's total is the weight
    divided by the row's total, whichever way the weight is written. -/
theorem soft_eq (x : Fin 1024 → ℝ) (hx : ∀ l, 0 ≤ x l) (hd : ∀ l, d l = (x l : EReal)) (l : Fin 1024) :
    cube (d l) * Ideal.div 1 (∑ k, cube (d k)) = Ideal.div (power (d l)) (∑ k, power (d k)) := by
  have hc : ∀ k, cube (d k) = (((1 + x k * 5⁻¹) ^ 3)⁻¹ : ℝ) := fun k => by rw [hd, cube_coe (hx k)]
  have hp : ∀ k, power (d k) = (((1 + x k * 5⁻¹) ^ 3)⁻¹ : ℝ) := fun k => by rw [hd, power_coe (hx k)]
  have hpos : 0 < ∑ k, ((1 + x k * 5⁻¹) ^ 3)⁻¹ :=
    Finset.sum_pos (fun k _ => by have := hx k; positivity) ⟨0, Finset.mem_univ _⟩
  simp only [hc, hp, coe_sum]
  rw [one_div_coe hpos, Ideal.div_coe hpos.ne', one_div]

/-! ## The squared distance of a latent and a code -/

/-- The squared distance by the expanded square, clipped below at zero. -/
def dist (z c : Fin 64 → EReal) : EReal :=
  max (∑ k, z k * z k - ((2 : ℝ) : EReal) * ∑ k, z k * c k + ∑ k, c k * c k) 0

/-- The middle term added with the factor −2 is the middle term subtracted with the factor 2, on all extended reals. -/
theorem dist_eq (z c : Fin 64 → EReal) :
    max (∑ k, z k * z k + (∑ k, z k * c k) * ((-2 : ℝ) : EReal) + ∑ k, c k * c k) 0 = dist z c := by
  rw [dist, sub_eq_add_neg, EReal.coe_neg, mul_neg, mul_comm (∑ k, z k * c k)]

/-- The squared distance of a latent and a code with finite coordinates is a real that is not negative. -/
theorem dist_real (z c : Fin 64 → EReal) (hz : ∀ k, ∃ a : ℝ, z k = a) (hc : ∀ k, ∃ a : ℝ, c k = a) :
    ∃ x : ℝ, 0 ≤ x ∧ dist z c = x := by
  choose a ha using hz
  choose b hb using hc
  refine ⟨max (∑ k, a k * a k - 2 * ∑ k, a k * b k + ∑ k, b k * b k) 0, le_max_right _ _, ?_⟩
  simp only [dist, ha, hb, ← EReal.coe_mul, coe_sum, ← EReal.coe_sub, ← EReal.coe_add]
  rw [← EReal.coe_zero, ← EReal.coe_strictMono.monotone.map_max]

end Cert.Row

end
-- ==== Proof.Payload.lean ====
/-
  What one block of the kernel computes, read at an index: from a block of latents, the codebook, the squared norms of both
  and the list of code numbers, the distances, the soft assignment, the first nearest code's number and the code itself.
-/
module

public import proofs.«01_k».proof.Proof.Row
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Payload

open Cert.KernelIdeal Cert.KernelIdeal.Gen

variable (z : FVec Ideal S1x64x2048 .f32) (cb : FVec Ideal S1024x64 .f32) (zs : FVec Ideal S1x1x2048 .f32)
  (cs io : FVec Ideal S1x1024 .f32) (d : FVec Ideal S2048x1024 .f32) (dm : FVec Ideal S2048x1 .f32)

/-- The name given to the constant 0.2 denotes the fifth. -/
theorem inv_alpha :
    Named.named (F := Ideal) κ "inv_alpha" (φ := .f32) 0x3E4CCCCD#32 = ((5⁻¹ : ℝ) : EReal) :=
  IdealRules.named_const.ideal_named_scalar _ _ _ _ rfl

/-- The distances under the name the stored values share. -/
theorem shared_distances : k0_pay8 (F := Ideal) z cb zs cs io = k0_pay5 (F := Ideal) z cb zs cs := by
  unfold k0_pay8; frame_out

/-- The least distances under the name the stored values share. -/
theorem shared_least : k0_pay9 (F := Ideal) z cb zs cs io = k0_pay7 (F := Ideal) z cb zs cs := by
  unfold k0_pay9; frame_out

/-- The clipped squared distance, from the norms the block is given. -/
theorem distance_apply (r : Fin 2048) (l : Fin 1024)
    (hz : zs (ix3 0 0 r) = ∑ k : Fin 64, z (ix3 0 k r) * z (ix3 0 k r))
    (hc : cs (ix2 0 l) = ∑ k : Fin 64, cb (ix2 l k) * cb (ix2 l k)) :
    k0_pay5 (F := Ideal) z cb zs cs (ix2 r l) = Row.dist (fun k => z (ix3 0 k r)) (fun k => cb (ix2 l k)) := by
  rw [← Row.dist_eq]
  pointwise [k0_pay5, Row.ofBits_neg_two, hz, hc]

/-- The least distance of a latent is the distance of its first nearest code. -/
theorem least_apply (r : Fin 2048) :
    k0_pay7 (F := Ideal) z cb zs cs (ix2 r 0)
      = k0_pay5 (F := Ideal) z cb zs cs (ix2 r (Row.first fun l => k0_pay5 (F := Ideal) z cb zs cs (ix2 r l))) := by
  pointwise [k0_pay7, Row.ofBits_inf]
  exact Row.fold_min fun l => k0_pay5 (F := Ideal) z cb zs cs (ix2 r l)

/-- The soft assignment: the cubed reciprocal times the reciprocal of the row's total. -/
theorem soft_apply (r : Fin 2048) (l : Fin 1024) :
    k0_pay6 (F := Ideal) z cb zs cs (ix2 r l)
      = Row.cube (k0_pay5 (F := Ideal) z cb zs cs (ix2 r l))
        * Ideal.div 1 (∑ k : Fin 1024, Row.cube (k0_pay5 (F := Ideal) z cb zs cs (ix2 r k))) := by
  pointwise [k0_pay6, inv_alpha, Row.cube]

/-- The least code number at the least distance, as a real, is the first nearest code's. -/
theorem index_apply (r : Fin 2048) (hio : ∀ l : Fin 1024, io (ix2 0 l) = ((l.val : ℝ) : EReal))
    (hm : dm (ix2 r 0) = d (ix2 r (Row.first fun l => d (ix2 r l)))) :
    k0_pay2 (F := Ideal) d dm io (ix2 r 0) = (((Row.first fun l => d (ix2 r l)).val : ℝ) : EReal) := by
  pointwise [k0_pay2, k0_pay1, hio, hm, Row.ofBits_inf, Row.ofBits_2048]
  exact Row.fold_index fun l => d (ix2 r l)

/-- The first nearest code's number. -/
theorem code_apply (r : Fin 2048) (hio : ∀ l : Fin 1024, io (ix2 0 l) = ((l.val : ℝ) : EReal))
    (hm : dm (ix2 r 0) = d (ix2 r (Row.first fun l => d (ix2 r l)))) :
    k0_pay3 (F := Ideal) d dm io (ix1 r) = BitVec.ofNat 32 (Row.first fun l => d (ix2 r l)).val := by
  pointwise [k0_pay3]
  rw [index_apply io d dm r hio hm]
  exact Row.fptosi_code _

/-- The product of the 0/1 matrix with the codebook is the first nearest code. -/
theorem taken_apply (r : Fin 2048) (j : Fin 64) (hio : ∀ l : Fin 1024, io (ix2 0 l) = ((l.val : ℝ) : EReal))
    (hm : dm (ix2 r 0) = d (ix2 r (Row.first fun l => d (ix2 r l)))) :
    k0_pay4 (F := Ideal) cb d dm io (ix2 j r) = cb (ix2 (Row.first fun l => d (ix2 r l)) j) := by
  pointwise [k0_pay4, k0_pay1, hio]
  rw [index_apply io d dm r hio hm]
  exact Row.sum_pick _ fun l => cb (ix2 l j)

end Cert.KernelIdeal.Payload

end
-- ==== Proof.Entry.lean ====
/-
  What the arrays hold when the kernel starts: the latents with their coordinates along the second axis, the squared norms
  of latents and codes, and the code numbers as reals.
-/
module

public import proofs.«01_k».proof.Proof.Row
public import proofs.«01_k».proof.Proof.Gen.KernelIdeal.Frame
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Entry

open Cert.KernelIdeal Cert.KernelIdeal.Gen

variable (m : (ℓ : Loc nD τ sig) → Buf (Elt Ideal) ℓ) (c : Dev nD)

/-- The latents, as launched. -/
abbrev latents : FVec Ideal S16x2048x64 .f32 := m ((c : Thread nD τ).loc main_arg0)
/-- The codebook, as launched. -/
abbrev codes : FVec Ideal S1024x64 .f32 := m ((c : Thread nD τ).loc main_arg1)

/-- The latents with their coordinates along the second axis. -/
theorem latents_apply (i : Fin 16) (k : Fin 64) (r : Fin 2048) :
    (V m c main_v1 : FVec Ideal S16x64x2048 .f32) (ix3 i k r) = latents m c (ix3 i r k) := by
  simp only [V, V0, hostOps0, List.flatten_cons, List.flatten_nil, List.append_nil]
  entry_read
  pointwise

/-- The squared norms of the latents. -/
theorem latent_norms_apply (i : Fin 16) (r : Fin 2048) :
    (V m c main_v5 : FVec Ideal S16x1x2048 .f32) (ix3 i 0 r) = ∑ k : Fin 64, latents m c (ix3 i r k) * latents m c (ix3 i r k) := by
  simp only [V, V0, hostOps0, List.flatten_cons, List.flatten_nil, List.append_nil]
  entry_read
  pointwise
  simp only [show (i.val * 2048 + r.val) / 2048 = i.val by have := r.isLt; omega,
    show (i.val * 2048 + r.val) % 2048 = r.val by have := r.isLt; omega, Fin.eta]

/-- The squared norms of the codes. -/
theorem code_norms_apply (l : Fin 1024) :
    (V m c main_v8 : FVec Ideal S1x1024 .f32) (ix2 0 l) = ∑ k : Fin 64, codes m c (ix2 l k) * codes m c (ix2 l k) := by
  simp only [V, V0, hostOps0, List.flatten_cons, List.flatten_nil, List.append_nil]
  entry_read
  pointwise

/-- The code numbers. -/
theorem numbers_apply (l : Fin 1024) : (V m c main_v10 : FVec Ideal S1x1024 .f32) (ix2 0 l) = ((l.val : ℝ) : EReal) := by
  simp only [V, V0, hostOps0, List.flatten_cons, List.flatten_nil, List.append_nil]
  entry_read
  pointwise
  show (((BitVec.ofNat 32 l.val).toInt : ℝ) : EReal) = _
  rw [Row.toInt_code, Int.cast_natCast]

end Cert.KernelIdeal.Entry

end
-- ==== Proof.Value.lean ====
/-
  What the kernel leaves in its four output arrays: the first nearest code of every latent, the soft assignment twice, and
  the first nearest code's number.
-/
module

public import proofs.«01_k».proof.Proof.Payload
public import proofs.«01_k».proof.Proof.Entry
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Entry

variable (m : (ℓ : Loc nD τ sig) → Buf (Elt Ideal) ℓ) (c : Dev nD)

/-- The squared distance of a latent, numbered over all batches, to a code. -/
def distance (Z : FVec Ideal S16x2048x64 .f32) (C : FVec Ideal S1024x64 .f32) (n : Fin 32768) (l : Fin 1024) : EReal :=
  Row.dist (fun k => Z (ix3 (⟨n.val / 2048, by omega⟩ : Fin 16) (⟨n.val % 2048, by omega⟩ : Fin 2048) k))
    (fun k => C (ix2 l k))

/-- Where each window's block sits at a point of the grid. -/
theorem idx : ∀ t : Fin cfg0.N, win0_0.index t = ![(grid0.coords t 0).val, 0, 0] ∧ win0_1.index t = ![0, 0]
    ∧ win0_2.index t = ![(grid0.coords t 0).val, 0, 0] ∧ win0_3.index t = ![0, 0] ∧ win0_4.index t = ![0, 0]
    ∧ win0_5.index t = ![0, (grid0.coords t 0).val] ∧ win0_6.index t = ![(grid0.coords t 0).val, 0]
    ∧ win0_7.index t = ![(grid0.coords t 0).val, 0] ∧ win0_8.index t = ![(grid0.coords t 0).val] :=
  (by decide +kernel : ∀ t : Fin grid0.N, _)

/-- The batch a point of the grid works on. -/
abbrev batch (t : Fin cfg0.N) : Fin 16 := grid0.coords t 0

/-- The number, over all batches, of a latent of the batch at a point of the grid. -/
abbrev number (t : Fin cfg0.N) (r : Fin 2048) : Fin 32768 :=
  ⟨(batch t).val * 2048 + r.val, by have := (batch t).isLt; have := r.isLt; omega⟩

/-! ## The blocks the kernel is given at a point -/

/-- The block of latents is the point's batch. -/
theorem latents_block (t : Fin cfg0.N) (k : Fin 64) (r : Fin 2048) :
    (iblk m c 0 t : FVec Ideal S1x64x2048 .f32) (ix3 0 k r) = latents m c (ix3 (batch t) r k) := by
  refine Eq.trans ?_ (latents_apply m c (batch t) k r)
  blk_simp [iblk]
  blk_ext [idx t, batch]

/-- The block of codes is the codebook. -/
theorem codes_block (t : Fin cfg0.N) (l : Fin 1024) (k : Fin 64) :
    (iblk m c 1 t : FVec Ideal S1024x64 .f32) (ix2 l k) = codes m c (ix2 l k) := by
  refine Eq.trans ?_ (congrFun (V_main_arg1 m c) (ix2 l k))
  blk_simp [iblk]
  blk_ext [idx t, batch]

/-- The block of latent norms: the squared norms of the batch. -/
theorem latent_norms_block (t : Fin cfg0.N) (r : Fin 2048) :
    (iblk m c 2 t : FVec Ideal S1x1x2048 .f32) (ix3 0 0 r)
      = ∑ k : Fin 64, latents m c (ix3 (batch t) r k) * latents m c (ix3 (batch t) r k) := by
  rw [← latent_norms_apply]
  blk_simp [iblk]
  refine congrArg (V m c main_v5) ?_
  blk_ext [idx t, batch]

/-- The block of code norms: the squared norms of the codebook. -/
theorem code_norms_block (t : Fin cfg0.N) (l : Fin 1024) :
    (iblk m c 3 t : FVec Ideal S1x1024 .f32) (ix2 0 l) = ∑ k : Fin 64, codes m c (ix2 l k) * codes m c (ix2 l k) := by
  refine Eq.trans ?_ (code_norms_apply m c l)
  blk_simp [iblk]
  blk_ext [idx t, batch]

/-- The block of code numbers. -/
theorem numbers_block (t : Fin cfg0.N) (l : Fin 1024) :
    (iblk m c 4 t : FVec Ideal S1x1024 .f32) (ix2 0 l) = ((l.val : ℝ) : EReal) := by
  refine Eq.trans ?_ (numbers_apply m c l)
  blk_simp [iblk]
  blk_ext [idx t, batch]

/-! ## What the block computes, over the arrays as launched -/

/-- The distances of the point's batch, as the block computes them. -/
abbrev block (t : Fin cfg0.N) : FVec Ideal S2048x1024 .f32 :=
  k0_pay5 (F := Ideal) (iblk m c 0 t) (iblk m c 1 t) (iblk m c 2 t) (iblk m c 3 t)

/-- The distances the block computes are those of its batch's latents to the codes. -/
theorem block_apply (t : Fin cfg0.N) (r : Fin 2048) (l : Fin 1024) :
    block m c t (ix2 r l) = distance (latents m c) (codes m c) (number t r) l := by
  refine (Payload.distance_apply _ _ _ _ r l ?_ ?_).trans ?_
  · simp only [latents_block, latent_norms_block]
  · simp only [codes_block, code_norms_block]
  · have h0 : (⟨((batch t).val * 2048 + r.val) / 2048, by have := (batch t).isLt; have := r.isLt; omega⟩ : Fin 16) = batch t :=
      Fin.ext (by have := r.isLt; simp only; omega)
    have h1 : (⟨((batch t).val * 2048 + r.val) % 2048, by omega⟩ : Fin 2048) = r :=
      Fin.ext (by have := r.isLt; simp only; omega)
    simp only [latents_block, codes_block, distance, h0, h1]

/-- A row of the block's distances. -/
theorem block_row (t : Fin cfg0.N) (r : Fin 2048) :
    (fun l => block m c t (ix2 r l)) = distance (latents m c) (codes m c) (number t r) :=
  funext (block_apply m c t r)

/-! ## The arrays the kernel leaves -/

/-- The soft assignment the kernel leaves: the cubed reciprocal times the reciprocal of the row's total. -/
def soft (Z : FVec Ideal S16x2048x64 .f32) (C : FVec Ideal S1024x64 .f32) : FVec Ideal S32768x1024 .f32 := fun i =>
  Row.cube (distance Z C (i 0) (i 1)) * Ideal.div 1 (∑ k : Fin 1024, Row.cube (distance Z C (i 0) k))

/-- The first nearest code's number, of every latent. -/
def nearest (Z : FVec Ideal S16x2048x64 .f32) (C : FVec Ideal S1024x64 .f32) : IVec S32768 32 := fun i =>
  BitVec.ofNat 32 (Row.first (distance Z C (i 0))).val

/-- The first nearest code of every latent, one latent per column. -/
def taken (Z : FVec Ideal S16x2048x64 .f32) (C : FVec Ideal S1024x64 .f32) : FVec Ideal S64x32768 .f32 := fun i =>
  C (ix2 (Row.first (distance Z C (i 1))) (i 0))

/-- A block of the soft assignment. -/
theorem soft_block (t : Fin cfg0.N) (r : Fin 2048) (l : Fin 1024) :
    k0_pay6 (F := Ideal) (iblk m c 0 t) (iblk m c 1 t) (iblk m c 2 t) (iblk m c 3 t) (ix2 r l)
      = soft (latents m c) (codes m c) (ix2 (number t r) l) := by
  refine (Payload.soft_apply _ _ _ _ r l).trans ?_
  simp only [block_apply]
  rfl

/-- The least distance the block finds is that of the first nearest code. -/
theorem least_block (t : Fin cfg0.N) (r : Fin 2048) :
    k0_pay7 (F := Ideal) (iblk m c 0 t) (iblk m c 1 t) (iblk m c 2 t) (iblk m c 3 t) (ix2 r 0)
      = block m c t (ix2 r (Row.first fun l => block m c t (ix2 r l))) :=
  Payload.least_apply _ _ _ _ r

/-- A block of the numbers. -/
theorem nearest_block (t : Fin cfg0.N) (r : Fin 2048) :
    k0_pay3 (F := Ideal) (block m c t)
        (k0_pay7 (F := Ideal) (iblk m c 0 t) (iblk m c 1 t) (iblk m c 2 t) (iblk m c 3 t)) (iblk m c 4 t) (ix1 r)
      = nearest (latents m c) (codes m c) (ix1 (number t r)) := by
  refine (Payload.code_apply _ _ _ r (numbers_block m c t) (least_block m c t r)).trans ?_
  rw [block_row]
  rfl

/-- A block of the codes taken. -/
theorem taken_block (t : Fin cfg0.N) (j : Fin 64) (r : Fin 2048) :
    k0_pay4 (F := Ideal) (iblk m c 1 t) (block m c t)
        (k0_pay7 (F := Ideal) (iblk m c 0 t) (iblk m c 1 t) (iblk m c 2 t) (iblk m c 3 t)) (iblk m c 4 t) (ix2 j r)
      = taken (latents m c) (codes m c) (ix2 j (number t r)) := by
  refine (Payload.taken_apply _ _ _ _ r j (numbers_block m c t) (least_block m c t r)).trans ?_
  rw [block_row, codes_block]
  rfl

/-- The array of the codes taken. -/
theorem final_taken : (dats m 0 c).arrAt 5 cfg0.N = taken (latents m c) (codes m c) := by
  refine (dats m 0 c).arrAt_eq_of_covers 5 _ (by decide +kernel) fun t _ y => ?_
  blk_simp
  rw [after0_5]; frame_out
  rw [Payload.shared_distances, Payload.shared_least]
  refine (congrArg _ (eq_ix2 y)).trans ((taken_block m c t (y 0) (y 1)).trans
    (congrArg (taken (latents m c) (codes m c)) ?_))
  blk_ext [idx t, batch]

/-- The first array of the soft assignment. -/
theorem final_soft : (dats m 0 c).arrAt 6 cfg0.N = soft (latents m c) (codes m c) := by
  refine (dats m 0 c).arrAt_eq_of_covers 6 _ (by decide +kernel) fun t _ y => ?_
  blk_simp
  rw [after0_6]; frame_out
  refine (congrArg _ (eq_ix2 y)).trans ((soft_block m c t (y 0) (y 1)).trans
    (congrArg (soft (latents m c) (codes m c)) ?_))
  blk_ext [idx t, batch]

/-- The second array of the soft assignment. -/
theorem final_soft_copy : (dats m 0 c).arrAt 7 cfg0.N = soft (latents m c) (codes m c) := by
  refine (dats m 0 c).arrAt_eq_of_covers 7 _ (by decide +kernel) fun t _ y => ?_
  blk_simp
  rw [after0_7]; frame_out
  refine (congrArg _ (eq_ix2 y)).trans ((soft_block m c t (y 0) (y 1)).trans
    (congrArg (soft (latents m c) (codes m c)) ?_))
  blk_ext [idx t, batch]

/-- The array of the numbers. -/
theorem final_nearest : (dats m 0 c).arrAt 8 cfg0.N = nearest (latents m c) (codes m c) := by
  refine (dats m 0 c).arrAt_eq_of_covers 8 _ (by decide +kernel) fun t _ y => ?_
  blk_simp
  rw [after0_8]; frame_out
  rw [Payload.shared_distances, Payload.shared_least]
  refine (congrArg _ (eq_ix1 y)).trans ((nearest_block m c t (y 0)).trans
    (congrArg (nearest (latents m c) (codes m c)) ?_))
  blk_ext [idx t, batch]

end Cert.KernelIdeal.Value

end
-- ==== Proof.Reference.lean ====
/-
  What the reference computes, read at an index: the squared distances, the soft assignment, the first nearest code of each
  latent and the code gathered for it.
-/
module

public import proofs.«01_k».proof.Proof.Row
public import proofs.«01_k».proof.Proof.Gen.ReferenceIdeal
public import Idealize.ShloMosaic.Lib.Pointwise
public import Idealize.ShloMosaic.Lib.Routing.Ops

@[expose] public section

set_option maxRecDepth 16384

noncomputable section

open Idealize.ShloMosaic Idealize.ShloMosaic.TcCoe Idealize.SL.Sem

namespace Cert.ReferenceIdeal.Terms

open Cert.ReferenceIdeal Cert.ReferenceIdeal.Facts₀ Cert.ReferenceIdeal.Facts

variable (Z : FVec Ideal S16x2048x64 .f32) (C : FVec Ideal S1024x64 .f32) (D : FVec Ideal S32768x1024 .f32) (B : IVec S32768 32)

/-- The squared distances of all latents to all codes, as the reference computes them. -/
def distances : FVec Ideal S32768x1024 .f32 :=
  maximumf
    (addf
      (subf
        (broadcastInDim S32768x1024 ![0, 1] bcast_S32768x1_S32768x1024_0_1
          (broadcastInDim S32768x1 ![0] bcast_S32768_S32768x1_0
            (Host.reduceAdd
              (mulf (shapeCast S32768x64 Z shapeCasts_S16x2048x64_S32768x64)
                (shapeCast S32768x64 Z shapeCasts_S16x2048x64_S32768x64))
              (constant S_ .f32 0x00000000#32) reducesTo_S32768x64_S32768_d1 h_S_)))
        (mulf (broadcastInDim S32768x1024 ![] bcast_S_S32768x1024 (constant S_ .f32 0x40000000#32))
          (Host.dotGeneral dot_S32768x64_S64x1024_S32768x1024_1_0_0_1_n_n none
            (shapeCast S32768x64 Z shapeCasts_S16x2048x64_S32768x64)
            (transpose S64x1024 [1, 0] C transposes_S1024x64_S64x1024_1_0))))
      (broadcastInDim S32768x1024 ![0, 1] bcast_S1x1024_S32768x1024_0_1
        (broadcastInDim S1x1024 ![1] bcast_S1024_S1x1024_1
          (Host.reduceAdd (mulf C C) (constant S_ .f32 0x00000000#32) reducesTo_S1024x64_S1024_d1 h_S_))))
    (broadcastInDim S32768x1024 ![] bcast_S_S32768x1024 (constant S_ .f32 0x00000000#32))

/-- The weights of a matrix of distances, before they are normalised. -/
def weights : FVec Ideal S32768x1024 .f32 :=
  Host.powf
    (addf (broadcastInDim S32768x1024 ![] bcast_S_S32768x1024 (constant S_ .f32 0x3F800000#32))
      (Host.divf D (broadcastInDim S32768x1024 ![] bcast_S_S32768x1024 (constant S_ .f32 0x40A00000#32))))
    (broadcastInDim S32768x1024 ![] bcast_S_S32768x1024 (constant S_ .f32 0xC0400000#32))

/-- The soft assignment: each row of weights divided by its total. -/
def soft : FVec Ideal S32768x1024 .f32 :=
  Host.divf (weights D)
    (broadcastInDim S32768x1024 ![0, 1] bcast_S32768x1_S32768x1024_0_1
      (broadcastInDim S32768x1 ![0] bcast_S32768_S32768x1_0
        (Host.reduceAdd (weights D) (constant S_ .f32 0x00000000#32) reducesTo_S32768x1024_S32768_d1 h_S_)))

/-- The rows a take looks up: a negative number counts from the end. -/
def rows : IVec S32768x1 32 :=
  broadcastInDim S32768x1 ![0] bcast_S32768_S32768x1_0
    (select (cmpi .slt B (broadcastInDim S32768 ![] bcast_S_S32768 (constantI S_ 32 0#32)))
      (addi B (broadcastInDim S32768 ![] bcast_S_S32768 (constantI S_ 32 1024#32))) B)

/-- The rows of the codebook at the given numbers; where a number is outside the codebook, the fill value. -/
def taken : FVec Ideal S32768x64 .f32 :=
  select
    (broadcastInDim S32768x64 ![0] bcast_S32768_S32768x64_0
      (Host.reduce IntOp.andi
        (andi (cmpi .sge (rows B) (broadcastInDim S32768x1 ![] bcast_S_S32768x1 (constantI S_ 32 0#32)))
          (cmpi .sle (rows B)
            (broadcastInDim S32768x1 ![0, 1] bcast_S1x1_S32768x1_0_1
              (broadcastInDim S1x1 ![1] bcast_S1_S1x1_1 (constantI S1 32 1023#32)))))
        (constantI S_ 1 1#1) reducesTo_S32768x1_S32768_d1 h_S_))
    (Host.gather gather_S1024x64_S32768x1_S32768x64_1_0_n_n_0_1_164 C (rows B))
    (broadcastInDim S32768x64 ![] bcast_S_S32768x64 (constant S_ .f32 0x7FC00000#32))

/-- The distances, read at a latent and a code: the clipped expanded square of the two. -/
theorem distances_apply (n : Fin 32768) (l : Fin 1024) :
    distances Z C (ix2 n l) = Row.dist
      (fun k => Z (ix3 (⟨n.val / 2048, by omega⟩ : Fin 16) (⟨n.val % 2048, by omega⟩ : Fin 2048) k)) (fun k => C (ix2 l k)) := by
  pointwise [distances, Row.dist, Row.ofBits_two]

/-- The soft assignment, read at a latent and a code: the weight divided by the row's total. -/
theorem soft_apply (n : Fin 32768) (l : Fin 1024) :
    soft D (ix2 n l) = Ideal.div (Row.power (D (ix2 n l))) (∑ k : Fin 1024, Row.power (D (ix2 n k))) := by
  pointwise [soft, weights, Row.power, Row.ofBits_five, Row.ofBits_neg_three]

/-! ## The first nearest code -/

/-- A pair of a distance and a code number comes before another: nearer, or as near with a number that is not greater. -/
def Before (p q : Ideal .f32 × BitVec 32) : Prop := p.1 < q.1 ∨ p.1 = q.1 ∧ p.2.toInt ≤ q.2.toInt

theorem Before.refl (p : Ideal .f32 × BitVec 32) : Before p p := Or.inr ⟨rfl, le_rfl⟩
theorem Before.trans {p q r : Ideal .f32 × BitVec 32} (h : Before p q) (h' : Before q r) : Before p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- The reference's comparison of two pairs returns one of them, which comes before both. -/
theorem reducer_spec (a b : Ideal .f32 × BitVec 32) :
    (reducer_argmin_f32_i32 a b = a ∨ reducer_argmin_f32_i32 a b = b)
      ∧ Before (reducer_argmin_f32_i32 a b) a ∧ Before (reducer_argmin_f32_i32 a b) b := by
  obtain ⟨x, i⟩ := a
  obtain ⟨y, j⟩ := b
  have hlt : ∀ u v : Ideal .f32, FloatOps.cmpf .olt u v = BitVec.ofBool (decide (u < v)) := fun _ _ => rfl
  have hne : ∀ u v : Ideal .f32, FloatOps.cmpf .une u v = BitVec.ofBool (decide (u ≠ v)) := fun _ _ => rfl
  have heq : ∀ u v : Ideal .f32, FloatOps.cmpf .oeq u v = BitVec.ofBool (decide (u = v)) := fun _ _ => rfl
  rcases lt_trichotomy x y with h | h | h
  · have e : reducer_argmin_f32_i32 (F := Ideal) (x, i) (y, j) = (x, i) := by
      simp [reducer_argmin_f32_i32, hlt, hne, heq, h, h.ne, IntOp.ori, IntOp.andi, Scalar.select]
    rw [e]; exact ⟨Or.inl rfl, Before.refl _, Or.inl h⟩
  · subst h
    by_cases hij : i.toInt < j.toInt
    · have e : reducer_argmin_f32_i32 (F := Ideal) (x, i) (x, j) = (x, i) := by
        simp [reducer_argmin_f32_i32, hlt, hne, heq, IntOp.ori, IntOp.andi, IntOp.cmpi, BitVec.slt, hij, Scalar.select]
      rw [e]; exact ⟨Or.inl rfl, Before.refl _, Or.inr ⟨rfl, hij.le⟩⟩
    · have e : reducer_argmin_f32_i32 (F := Ideal) (x, i) (x, j) = (x, j) := by
        simp [reducer_argmin_f32_i32, hlt, hne, heq, IntOp.ori, IntOp.andi, IntOp.cmpi, BitVec.slt, hij, Scalar.select]
      rw [e]; exact ⟨Or.inr rfl, Or.inr ⟨rfl, not_lt.1 hij⟩, Before.refl _⟩
  · have e : reducer_argmin_f32_i32 (F := Ideal) (x, i) (y, j) = (y, j) := by
      simp [reducer_argmin_f32_i32, hlt, hne, heq, h, h.not_gt, h.ne', IntOp.ori, IntOp.andi, Scalar.select]
    rw [e]; exact ⟨Or.inr rfl, Or.inl h, Before.refl _⟩

/-- Folded over a list of pairs, the comparison returns the initial pair or one of the list's, and it comes before all. -/
theorem foldl_spec (L : List (Ideal .f32 × BitVec 32)) (a : Ideal .f32 × BitVec 32) :
    (L.foldl reducer_argmin_f32_i32 a = a ∨ L.foldl reducer_argmin_f32_i32 a ∈ L)
      ∧ Before (L.foldl reducer_argmin_f32_i32 a) a ∧ ∀ p ∈ L, Before (L.foldl reducer_argmin_f32_i32 a) p := by
  induction L generalizing a with
  | nil => exact ⟨Or.inl rfl, Before.refl _, fun p hp => absurd hp List.not_mem_nil⟩
  | cons b L ih =>
    obtain ⟨hm, ha, hL⟩ := ih (reducer_argmin_f32_i32 a b)
    obtain ⟨hr, hra, hrb⟩ := reducer_spec a b
    refine ⟨?_, ha.trans hra, fun p hp => ?_⟩
    · rcases hm with hm | hm
      · rcases hr with hr | hr
        · exact Or.inl (hm.trans hr)
        · exact Or.inr (List.mem_cons.2 (Or.inl (hm.trans hr)))
      · exact Or.inr (List.mem_cons.2 (Or.inr hm))
    · rcases List.mem_cons.1 hp with rfl | hp
      · exact ha.trans hrb
      · exact hL p hp

/-- Reducing the codes away leaves the latent. -/
theorem drop_eq (n n' : Fin 32768) (k : Fin 1024) :
    reducesTo_S32768x1024_S32768_d1.drop (ix2 n' k) = ix1 n ↔ n' = n := by
  have hv : (reducesTo_S32768x1024_S32768_d1.drop (ix2 n' k) 0 : Nat) = n'.val :=
    Shape.ReducesTo.drop_apply_val reducesTo_S32768x1024_S32768_d1 (ix2 n' k) 0
  constructor
  · intro h
    exact Fin.ext (hv.symm.trans (congrArg (fun i : S32768.Idx => (i 0).val) h))
  · rintro rfl
    funext a
    obtain rfl : a = 0 := Subsingleton.elim _ _
    exact Fin.ext hv

/-- The pairs compared for one latent are its distances with their code numbers. -/
theorem mem_fiber (n : Fin 32768) (p : Ideal .f32 × BitVec 32) :
    p ∈ Host.argReduceFiber D (iotaInDim S32768x1024 32 1) reducesTo_S32768x1024_S32768_d1 (ix1 n)
      ↔ ∃ k : Fin 1024, p = (D (ix2 n k), BitVec.ofNat 32 k.val) := by
  unfold Host.argReduceFiber
  constructor
  · intro h
    obtain ⟨i, hi, rfl⟩ := List.mem_map.1 h
    have hd := of_decide_eq_true (List.mem_filter.1 hi).2
    generalize S32768x1024.rowMajor.symm i = q at hd ⊢
    obtain ⟨a, k, rfl⟩ : ∃ (a : Fin 32768) (k : Fin 1024), q = ix2 a k := ⟨q 0, q 1, eq_ix2 q⟩
    rw [(drop_eq n a k).1 hd]
    exact ⟨k, rfl⟩
  · rintro ⟨k, rfl⟩
    refine List.mem_map.2 ⟨S32768x1024.rowMajor (ix2 n k), List.mem_filter.2 ⟨List.mem_finRange _, ?_⟩, ?_⟩
    · rw [Equiv.symm_apply_apply]; exact decide_eq_true ((drop_eq n n k).2 rfl)
    · rw [Equiv.symm_apply_apply]; rfl

/-- Compared over a list holding exactly a row's distances with their code numbers, the pair that remains has the number
    of the row's first nearest code. -/
theorem foldl_first (L : List (Ideal .f32 × BitVec 32)) (a : Ideal .f32 × BitVec 32) (ha : a = ((⊤ : EReal), 0#32))
    (d : Fin 1024 → EReal) (hd : ∀ p, p ∈ L ↔ ∃ k : Fin 1024, p = (d k, BitVec.ofNat 32 k.val)) :
    (L.foldl reducer_argmin_f32_i32 a).2 = BitVec.ofNat 32 (Row.first d).val := by
  subst ha
  obtain ⟨hm, h0, hL⟩ := foldl_spec L ((⊤ : EReal), 0#32)
  generalize List.foldl (reducer_argmin_f32_i32 (F := Ideal)) _ L = r at hm h0 hL
  have hk : ∃ k : Fin 1024, r = (d k, BitVec.ofNat 32 k.val) := by
    rcases hm with rfl | hm
    · refine ⟨0, Prod.ext ?_ rfl⟩
      rcases hL _ ((hd _).2 ⟨0, rfl⟩) with h | h
      · exact absurd h not_top_lt
      · exact h.1
    · exact (hd _).1 hm
  obtain ⟨k, rfl⟩ := hk
  refine congrArg (fun i : Fin 1024 => BitVec.ofNat 32 i.val) ?_
  have h1 := hL _ ((hd _).2 ⟨Row.first d, rfl⟩)
  have h2 := Row.first_spec d k
  rcases h1 with h1 | ⟨h1, h1'⟩ <;> rcases h2 with h2 | ⟨h2, h2'⟩
  · exact absurd h1 h2.not_gt
  · exact absurd h1 h2.not_gt
  · exact absurd h1 h2.ne'
  · dsimp only at h1'
    rw [Row.toInt_code, Row.toInt_code] at h1'
    exact le_antisymm (Fin.mk_le_mk.2 (by exact_mod_cast h1')) h2'

/-- The number the reference gives a latent is that of the first nearest code of its row of distances. -/
theorem nearest_apply (n : Fin 32768) :
    (Host.argReduce reducer_argmin_f32_i32 D (iotaInDim S32768x1024 32 1) (constant S_ .f32 0x7F800000#32)
      (constantI S_ 32 0#32) reducesTo_S32768x1024_S32768_d1 h_S_ (ix1 n)).2
      = BitVec.ofNat 32 (Row.first fun k => D (ix2 n k)).val := by
  refine (congrArg Prod.snd ((congrFun (Ideal.argReduce_eq_reduce2 _ _ _ _ _ _ _) (ix1 n)).trans
    (Host.reduce2_eq_foldl_fiber _ _ _ _ _ _ _ _))).trans ?_
  exact foldl_first _ _ (Prod.ext Row.ofBits_inf rfl) _ (mem_fiber D n)

/-! ## The code taken -/

/-- A code's number looks up its own row: it is not negative. -/
theorem rows_apply (n : Fin 32768) (k : Fin 1024) (h : B (ix1 n) = BitVec.ofNat 32 k.val) :
    rows B (ix2 n 0) = BitVec.ofNat 32 k.val := by
  pointwise [rows, h]
  have : IntOp.cmpi .slt (BitVec.ofNat 32 k.val) 0#32 = 0#1 := by
    simp [IntOp.cmpi, BitVec.slt, Row.toInt_code, not_lt.2 (Int.natCast_nonneg k.val)]
  rw [this]; rfl

/-- The row taken at a code's number is that code. -/
theorem taken_apply (n : Fin 32768) (j : Fin 64) (k : Fin 1024) (h : B (ix1 n) = BitVec.ofNat 32 k.val) :
    taken C B (ix2 n j) = C (ix2 k j) := by
  have hr := rows_apply B n k h
  have hg : Host.gather gather_S1024x64_S32768x1_S32768x64_1_0_n_n_0_1_164 C (rows B) (ix2 n j) = C (ix2 k j) :=
    Routing.gather_row gather_S1024x64_S32768x1_S32768x64_1_0_n_n_0_1_164 rfl rfl rfl rfl rfl C (rows B) n j k hr
      (by norm_num)
  have hb : IntOp.andi (IntOp.cmpi .sge (BitVec.ofNat 32 k.val) 0#32) (IntOp.cmpi .sle (BitVec.ofNat 32 k.val) 1023#32)
      = 1#1 := by
    have : (k.val : ℤ) ≤ 1023 := by have := k.isLt; omega
    simp [IntOp.cmpi, IntOp.andi, BitVec.sle, Row.toInt_code, this]
  pointwise [taken]
  rw [hg]
  simp only [Finset.univ_unique, Finset.fold_singleton, Fin.default_eq_zero, Fin.isValue, hr, hb]
  rfl

end Cert.ReferenceIdeal.Terms

end
-- ==== Proof.Equation.lean ====
/-
  The arrays the kernel leaves are those the reference computes.
-/
module

public import proofs.«01_k».proof.Proof.Value
public import proofs.«01_k».proof.Proof.Reference

@[expose] public section

set_option maxRecDepth 16384

noncomputable section

open Idealize.ShloMosaic

namespace Cert.Equation

open Cert.ReferenceIdeal Cert.ReferenceIdeal.Facts₀ Cert.ReferenceIdeal.Facts Cert.ReferenceIdeal.Terms

variable (Z : FVec Ideal S16x2048x64 .f32) (C : FVec Ideal S1024x64 .f32)

/-- The reference's distances are the kernel's. -/
theorem distances_eq (n : Fin 32768) (l : Fin 1024) :
    distances Z C (ix2 n l) = Cert.KernelIdeal.Value.distance Z C n l := distances_apply Z C n l

/-- The reference's soft assignment is the kernel's, when every coordinate is a real. -/
theorem soft_eq (hZ : ∀ i, ∃ a : ℝ, Z i = a) (hC : ∀ i, ∃ a : ℝ, C i = a) :
    soft (distances Z C) = Cert.KernelIdeal.Value.soft Z C := by
  funext i
  obtain ⟨n, l, rfl⟩ : ∃ (n : Fin 32768) (l : Fin 1024), i = ix2 n l := ⟨i 0, i 1, eq_ix2 i⟩
  have h : ∀ k, ∃ x : ℝ, 0 ≤ x ∧ Cert.KernelIdeal.Value.distance Z C n k = x := fun k =>
    Row.dist_real _ _ (fun _ => hZ _) (fun _ => hC _)
  choose x hx hd using h
  refine (soft_apply (distances Z C) n l).trans ?_
  refine Eq.trans ?_ (Row.soft_eq (Cert.KernelIdeal.Value.distance Z C n) x hx hd l).symm
  simp only [distances_eq]

/-- The reference's numbers are the kernel's. -/
theorem nearest_eq :
    (fun j => (Host.argReduce reducer_argmin_f32_i32 (distances Z C) (iotaInDim S32768x1024 32 1)
      (constant S_ .f32 0x7F800000#32) (constantI S_ 32 0#32) reducesTo_S32768x1024_S32768_d1 h_S_ j).2)
      = Cert.KernelIdeal.Value.nearest Z C := by
  funext j
  obtain ⟨n, rfl⟩ : ∃ n : Fin 32768, j = ix1 n := ⟨j 0, eq_ix1 j⟩
  refine (nearest_apply (distances Z C) n).trans ?_
  simp only [distances_eq]
  rfl

/-- The codes the reference takes at the kernel's numbers are the kernel's, with the latents along the rows. -/
theorem taken_eq (h : Cert.KernelIdeal.S64x32768.Transposes [1, 0] Cert.KernelIdeal.S32768x64) :
    taken C (Cert.KernelIdeal.Value.nearest Z C)
      = transpose Cert.KernelIdeal.S32768x64 [1, 0] (Cert.KernelIdeal.Value.taken Z C) h := by
  funext i
  refine (congrArg (taken C (Cert.KernelIdeal.Value.nearest Z C)) (eq_ix2 i)).trans
    ((taken_apply C _ (i 0) (i 1) (Row.first (Cert.KernelIdeal.Value.distance Z C (i 0))) rfl).trans ?_)
  obtain ⟨n, j, rfl⟩ : ∃ (n : Fin 32768) (j : Fin 64), i = ix2 n j := ⟨i 0, i 1, eq_ix2 i⟩
  pointwise
  rfl

end Cert.Equation

end
-- ==== Proof.Finite.lean ====
/-
  What the precondition says: every coordinate of every latent and of every code is a real number.
-/
module

public import proofs.«01_k».proof.Pre_finite_inputs
public import proofs.«01_k».proof.Proof.Row
public import Idealize.ShloMosaic.Lib.ReduceAll

@[expose] public section

set_option maxRecDepth 16384

noncomputable section

open Idealize.ShloMosaic

namespace Cert.Finite

open Cert.Pre_finite_inputs

/-- The shape facts the precondition takes. -/
theorem facts : Cert.Pre_finite_inputs.Facts := ⟨by decide, by decide, by decide, by decide, by decide⟩

/-- An extended real whose absolute value is below the infinity is a real. -/
theorem real_of_abs_lt {x : EReal} (h : max x (-x) < ⊤) : ∃ a : ℝ, x = a := by
  induction x with
  | bot => simp at h
  | top => simp at h
  | coe a => exact ⟨a, rfl⟩

/-- A comparison `|x| < ∞` that came out 1 makes `x` a real. -/
theorem real_of_cmpf {x : EReal}
    (h : FloatOps.cmpf (F := Ideal) (φ := .f32) .olt (max x (-x) : EReal) (Ideal.ofBits .f32 0x7F800000#32) = 1#1) :
    ∃ a : ℝ, x = a := by
  have h' : BitVec.ofBool (decide (max x (-x) < Ideal.ofBits .f32 0x7F800000#32)) = 1#1 := h
  rw [Row.ofBits_inf] at h'
  by_cases hx : max x (-x) < ⊤
  · exact real_of_abs_lt hx
  · rw [decide_eq_false hx] at h'
    exact absurd h' (by decide)

variable [Cert.Pre_finite_inputs.Facts] (Z : FVec Ideal S16x2048x64 .f32) (C : FVec Ideal S1024x64 .f32)

/-- Under the precondition every coordinate of a latent is a real. -/
theorem latents_real (h : fn (F := Ideal) Z C = fun _ => 1#1) (i : S16x2048x64.Idx) : ∃ a : ℝ, Z i = a := by
  have h0 := (IntOp.andi_eq_one.1 (congrFun h (fun a => a.elim0))).1
  haveI : Subsingleton S_.Idx := ⟨fun _ _ => funext fun a => a.elim0⟩
  exact real_of_cmpf (Host.reduce_andi_all _ _ _ _ _ h0 i)

/-- Under the precondition every coordinate of a code is a real. -/
theorem codes_real (h : fn (F := Ideal) Z C = fun _ => 1#1) (i : S1024x64.Idx) : ∃ a : ℝ, C i = a := by
  have h0 := (IntOp.andi_eq_one.1 (congrFun h (fun a => a.elim0))).2
  haveI : Subsingleton S_.Idx := ⟨fun _ _ => funext fun a => a.elim0⟩
  exact real_of_cmpf (Host.reduce_andi_all _ _ _ _ _ h0 i)

end Cert.Finite

end
-- ==== Proof.Algebraic.lean ====
/-
  The kernel and the reference end with equal results, from memories that agree on the arguments.
-/
module

public import proofs.«01_k».proof.Defs
public import proofs.«01_k».proof.Proof.Equation
public import proofs.«01_k».proof.Proof.Finite

@[expose] public section

set_option maxRecDepth 16384

noncomputable section

open Idealize.ShloMosaic Idealize.ShloMosaic.TcCoe Idealize.SL.Sem

namespace Cert.Algebraic

open Cert.KernelIdeal.Entry

variable (m : (ℓ : Loc KernelIdeal.nD KernelIdeal.τ KernelIdeal.sig) → Buf (Elt Ideal) ℓ) (c : Dev KernelIdeal.nD)

/-- The first result: the transpose, after the kernel, of the array of the codes taken. -/
theorem result_taken :
    Pipeline.afterTail₀ KernelIdeal.cfgs (KernelIdeal.Gen.dats m) 0 (KernelIdeal.Gen.V0 m) [KernelIdeal.Gen.hostOps1] c
        KernelIdeal.main_v12
      = ReferenceIdeal.Terms.taken (codes m c) (KernelIdeal.Value.nearest (latents m c) (codes m c)) := by
  refine Eq.trans ?_ (Equation.taken_eq (latents m c) (codes m c)
    KernelIdeal.Gen.transposes_S64x32768_S32768x64_1_0).symm
  rw [← KernelIdeal.Value.final_taken]
  unfold Pipeline.afterTail₀
  simp only [KernelIdeal.Gen.hostOps1, List.flatten_cons, List.flatten_nil, List.append_nil]
  simp only [StableHlo.after_cons, StableHlo.after_nil]
  after_results_simp
  refine congrArg (fun x => transpose KernelIdeal.S32768x64 [1, 0] x _) ?_
  exact Pipeline.withArrays_arr (KernelIdeal.cfgs 0).spec (by decide) c (KernelIdeal.Gen.V0 m c) _ 5

set_option maxHeartbeats 1600000 in
/-- The two programs' results are equal under the precondition. -/
theorem algebraic [hp : Cert.Pre_finite_inputs.Facts] :
    Cert.algebraic_KernelIdeal_ReferenceIdeal_pre_finite_inputs := by
  pair_intro
  · run_from Cert.KernelIdeal.Gen.run_main m g
    exact KernelIdeal.Gen.W_main_arg0 m _ c
  · hlo_run
    all_goals
      have hZ := Finite.latents_real (latents m c) (codes m c) (hpre c)
      have hC := Finite.codes_real (latents m c) (codes m c) (hpre c)
    · refine Eq.trans ?_ (result_taken m c).symm
      simp only [StableHlo.TRef.ofBuf_toBuf]
      generalize hD : (StableHlo.TRef.of ReferenceIdeal.main_v16 _ _ _).ofBuf _ = D
      have hD' : D = ReferenceIdeal.Terms.distances (latents m c) (codes m c) := hD.symm
      clear hD
      subst hD'
      rw [Equation.nearest_eq]
      generalize KernelIdeal.Value.nearest (latents m c) (codes m c) = B
      unfold ReferenceIdeal.Terms.taken ReferenceIdeal.Terms.rows
      simp only [StableHlo.TRef.toBuf, StableHlo.TRef.ofBuf, cast_eq]
    · exact (Equation.soft_eq _ _ hZ hC).trans (KernelIdeal.Value.final_soft m c).symm
    · exact (Equation.soft_eq _ _ hZ hC).trans (KernelIdeal.Value.final_soft_copy m c).symm
    · refine Eq.trans ?_ ((Equation.nearest_eq (latents m c) (codes m c)).trans (KernelIdeal.Value.final_nearest m c).symm)
      simp only [StableHlo.TRef.ofBuf_toBuf]
      rfl

end Cert.Algebraic

end
-- ==== Proof.lean ====
/-
  The certificate: the frames of the three programs, the naming of the rounded constant and the equality of the kernel's
  four results with the reference's, assembled into `Cert.Claim`.
-/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything the certificate claims. -/
theorem claim : Cert.Claim :=
  haveI := Cert.Finite.facts
  ⟨Cert.Kernel.Gen.facts, Cert.KernelIdeal.Gen.facts, Cert.ReferenceIdeal.Gen.facts, Cert.Finite.facts,
    Cert.Frames.kernel, Cert.Frames.kernel_ideal, Cert.Frames.kernel_ideal_pre, Cert.Frames.reference,
    Cert.Frames.reference_pre, Cert.Frames.preserves, Cert.Algebraic.algebraic⟩

end Cert.Proof

end
